-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x128x112x112 : Shape := ⟨4, ![64, 128, 112, 112]⟩
abbrev S64x112x112x128 : Shape := ⟨4, ![64, 112, 112, 128]⟩
abbrev S64x56x56x128 : Shape := ⟨4, ![64, 56, 56, 128]⟩
abbrev S2x112x112x128 : Shape := ⟨4, ![2, 112, 112, 128]⟩
abbrev S2x56x56x128 : Shape := ⟨4, ![2, 56, 56, 128]⟩
abbrev S112x2x14x8x128 : Shape := ⟨5, ![112, 2, 14, 8, 128]⟩
abbrev S112x1x14x8x128 : Shape := ⟨5, ![112, 1, 14, 8, 128]⟩
abbrev S112x14x8x128 : Shape := ⟨4, ![112, 14, 8, 128]⟩
abbrev S112x7x2x8x128 : Shape := ⟨5, ![112, 7, 2, 8, 128]⟩
abbrev S112x7x2x8x128x1 : Shape := ⟨6, ![112, 7, 2, 8, 128, 1]⟩
abbrev S112x7x8x128 : Shape := ⟨4, ![112, 7, 8, 128]⟩
abbrev S112x7x1x8x128 : Shape := ⟨5, ![112, 7, 1, 8, 128]⟩
abbrev S64x128x56x56 : Shape := ⟨4, ![64, 128, 56, 56]⟩

abbrev nBuf : Space → Nat
  | .hbm => 4
  | .vmem => 4
  | .smem => 0
  | _ => 0

abbrev bufTy : (tb : Table) → Fin (tcTables nBuf tb) → BufTy
  | .hbm, ⟨0, _⟩ => ⟨S64x128x112x112, .f32⟩
  | .hbm, ⟨1, _⟩ => ⟨S64x112x112x128, .f32⟩
  | .hbm, ⟨2, _⟩ => ⟨S64x56x56x128, .f32⟩
  | .hbm, ⟨3, _⟩ => ⟨S64x128x56x56, .f32⟩
  | .local _ .vmem, ⟨0, _⟩ => ⟨S2x112x112x128, .f32⟩
  | .local _ .vmem, ⟨1, _⟩ => ⟨S2x112x112x128, .f32⟩
  | .local _ .vmem, ⟨2, _⟩ => ⟨S2x56x56x128, .f32⟩
  | .local _ .vmem, ⟨3, _⟩ => ⟨S2x56x56x128, .f32⟩
  | _, _ => ⟨S64x128x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x112x112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x56x56x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64x128x112x112 : Shape := ⟨4, ![64, 128, 112, 112]⟩
abbrev S_ : Shape := ⟨0, ![]⟩
abbrev S64x128x56x56 : Shape := ⟨4, ![64, 128, 56, 56]⟩

abbrev nBuf : Space → Nat
  | .hbm => 24
  | .vmem => 0
  | .smem => 0
  | _ => 0

abbrev bufTy : (tb : Table) → Fin (tcTables nBuf tb) → BufTy
  | .hbm, ⟨0, _⟩ => ⟨S64x128x112x112, .f32⟩
  | .hbm, ⟨1, _⟩ => ⟨S_, .f32⟩
  | .hbm, ⟨2, _⟩ => ⟨S64x128x56x56, .f32⟩
  | .hbm, ⟨3, _⟩ => ⟨S64x128x56x56, .f32⟩
  | .hbm, ⟨4, _⟩ => ⟨S64x128x56x56, .f32⟩
  | .hbm, ⟨5, _⟩ => ⟨S64x128x56x56, .bf16⟩
  | .hbm, ⟨6, _⟩ => ⟨S64x128x56x56, .f32⟩
  | .hbm, ⟨7, _⟩ => ⟨S64x128x56x56, .f32⟩
  | .hbm, ⟨8, _⟩ => ⟨S64x128x56x56, .f32⟩
  | .hbm, ⟨9, _⟩ => ⟨S64x128x56x56, .bf16⟩
  | .hbm, ⟨10, _⟩ => ⟨S64x128x56x56, .f32⟩
  | .hbm, ⟨11, _⟩ => ⟨S64x128x56x56, .f32⟩
  | .hbm, ⟨12, _⟩ => ⟨S64x128x56x56, .f32⟩
  | .hbm, ⟨13, _⟩ => ⟨S64x128x56x56, .bf16⟩
  | .hbm, ⟨14, _⟩ => ⟨S64x128x56x56, .f32⟩
  | .hbm, ⟨15, _⟩ => ⟨S64x128x56x56, .f32⟩
  | .hbm, ⟨16, _⟩ => ⟨S64x128x56x56, .f32⟩
  | .hbm, ⟨17, _⟩ => ⟨S64x128x56x56, .bf16⟩
  | .hbm, ⟨18, _⟩ => ⟨S64x128x56x56, .f32⟩
  | .hbm, ⟨19, _⟩ => ⟨S_, .f32⟩
  | .hbm, ⟨20, _⟩ => ⟨S64x128x56x56, .f32⟩
  | .hbm, ⟨21, _⟩ => ⟨S64x128x56x56, .f32⟩
  | .hbm, ⟨22, _⟩ => ⟨S64x128x56x56, .bf16⟩
  | .hbm, ⟨23, _⟩ => ⟨S64x128x56x56, .f32⟩
  | _, _ => ⟨S64x128x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Proof.Block.lean ====
/- One block of the pooling kernel, read at an output position.

   The body views its block as rows × 2 × 14 × 8 × channels, adds each element to its right neighbour (a rotation of the
   eight sublanes by seven) and to the two below, scales by a quarter, and keeps the even sublanes by a gather: an
   output column `q` comes from sublane `2 (q mod 4)` of the tile `2 (q / 8)` or the one after it, as `q mod 8` is
   below four or not.  `block_apply` says that this is the average of the two-by-two window. -/
module

public import proofs.«01_k».proof.Proof.Gen.KernelIdeal.Skeleton
public import Idealize.ShloMosaic.Lib.Pointwise
public import Idealize.ShloMosaic.Lib.ValueIdx

@[expose] public section

noncomputable section

namespace Cert.KernelIdeal.Pool

open Idealize.ShloMosaic Idealize.SL.Sem Cert.KernelIdeal Cert.KernelIdeal.Gen

/-- The sum of four values, in the order in which the window is read, times the kernel's constant 0.25. -/
def quarterSum (a b c d : EReal) : EReal := (a + b + c + d) * Ideal.ofBits FTy.f32 1048576000#32

/-- The gather's index word on sublane `s` is `2 (s mod 4)`. -/
theorem index_apply (r : Fin 112) (t : Fin 7) (h : Fin 2) (s : Fin 8) (c : Fin 128) :
    k0_pay3 (ix5 r t h s c) = BitVec.ofNat 32 (2 * (s.val % 4)) := by
  unfold k0_pay3
  pointwise
  revert s
  decide

/-- The word after the wrap-around of negative indices, read as a sublane: `2 (s mod 4)` again. -/
theorem index_wrapped (s : ℕ) (hs : s < 8) :
    (Scalar.select (IntOp.cmpi CmpIPredicate.slt (BitVec.ofNat 32 (2 * (s % 4))) 0#32)
      (IntOp.addi (BitVec.ofNat 32 (2 * (s % 4))) 8#32) (BitVec.ofNat 32 (2 * (s % 4)))).toNat % 8 = 2 * (s % 4) := by
  revert s
  decide

/-- The lower half of a tile's sublanes takes the first operand of the select, the upper half the second. -/
theorem select_half {α : Type} (s : ℕ) (hs : s < 8) (a b : α) :
    Scalar.select (IntOp.cmpi CmpIPredicate.slt (BitVec.ofNat 32 s) 4#32) a b = if s < 4 then a else b := by
  have key : ∀ s < 8, IntOp.cmpi CmpIPredicate.slt (BitVec.ofNat 32 s) 4#32 = if s < 4 then 1#1 else 0#1 := by decide
  rw [key s hs]
  split <;> rfl

/-- The summed and scaled rows, before compaction, at an EVEN sublane: the window whose left column that sublane is. -/
theorem summed_apply (x : Vec Ideal S2x112x112x128 .f32) (g : Fin 2) (p q : Fin 56) (c : Fin 128)
    (r : Fin 112) (t : Fin 7) (h : Fin 2) (s : Fin 8)
    (hr : r.val = g.val * 56 + p.val) (hq : (t.val * 2 + h.val) * 8 + s.val = 2 * q.val) :
    k0_pay2 x (ix5 r t h s c)
      = quarterSum (x (ix4 g ⟨2 * p.val, by omega⟩ ⟨2 * q.val, by omega⟩ c))
          (x (ix4 g ⟨2 * p.val, by omega⟩ ⟨2 * q.val + 1, by omega⟩ c))
          (x (ix4 g ⟨2 * p.val + 1, by omega⟩ ⟨2 * q.val, by omega⟩ c))
          (x (ix4 g ⟨2 * p.val + 1, by omega⟩ ⟨2 * q.val + 1, by omega⟩ c)) := by
  have hg : r.val / 56 = g.val := by omega
  have hp : r.val % 56 * 2 = 2 * p.val := by omega
  have hn : (t.val * 2 + h.val) * 8 + (s.val + 8 - 7) % 8 = 2 * q.val + 1 := by omega
  unfold k0_pay2
  pointwise
  simp only [hg, hp, hn, hq, quarterSum]

/-- What the body stores at `(g, p, q, c)`: the average of the two-by-two window at row `2p` and column `2q`. -/
theorem block_apply (x : Vec Ideal S2x112x112x128 .f32) (g : Fin 2) (p q : Fin 56) (c : Fin 128) :
    k0_pay1 (k0_pay2 x) k0_pay3 0#32 (ix4 g p q c)
      = quarterSum (x (ix4 g ⟨2 * p.val, by omega⟩ ⟨2 * q.val, by omega⟩ c))
          (x (ix4 g ⟨2 * p.val, by omega⟩ ⟨2 * q.val + 1, by omega⟩ c))
          (x (ix4 g ⟨2 * p.val + 1, by omega⟩ ⟨2 * q.val, by omega⟩ c))
          (x (ix4 g ⟨2 * p.val + 1, by omega⟩ ⟨2 * q.val + 1, by omega⟩ c)) := by
  have h8 : q.val % 8 < 8 := Nat.mod_lt _ (by omega)
  unfold k0_pay1
  pointwise [index_apply]
  rw [select_half _ h8]
  split
  · apply summed_apply
    · rfl
    · simp only [index_wrapped _ h8]
      show (q.val / 8 * 2 + 0) * 8 + 2 * (q.val % 8 % 4) = 2 * q.val
      omega
  · apply summed_apply
    · rfl
    · simp only [index_wrapped _ h8]
      show (q.val / 8 * 2 + 1) * 8 + 2 * (q.val % 8 % 4) = 2 * q.val
      omega

end Cert.KernelIdeal.Pool

end
-- ==== Proof.Array.lean ====
/- The kernel's result array.

   The grid's thirty-two blocks tile the channels-last output; each holds the averages of the two-by-two windows of the
   channels-last input's block under it.  The host transposes around the region then give the result buffer in the
   caller's layout, batch × channels × rows × columns. -/
module

public import proofs.«01_k».proof.Proof.Block
public import proofs.«01_k».proof.Proof.Gen.KernelIdeal.Frame
public import Idealize.ShloMosaic.Lib.Pipeline.ValueKit
public import Idealize.ShloMosaic.Lib.Claim

@[expose] public section

noncomputable section

namespace Cert.KernelIdeal.Pool

open Idealize.ShloMosaic Idealize.ShloMosaic.TcCoe Idealize.SL.Sem Cert.KernelIdeal Cert.KernelIdeal.Gen

variable (m : (ℓ : Loc nD τ sig) → Buf (Elt Ideal) ℓ)

/-- Image `n`, channel `d`, output position `(p, q)`: the window's sum in reading order, times 0.25. -/
def pooledAt (x : S64x128x112x112.Idx → EReal) (n : Fin 64) (d : Fin 128) (p q : Fin 56) : EReal :=
  quarterSum (x (ix4 n d ⟨2 * p.val, by omega⟩ ⟨2 * q.val, by omega⟩))
    (x (ix4 n d ⟨2 * p.val, by omega⟩ ⟨2 * q.val + 1, by omega⟩))
    (x (ix4 n d ⟨2 * p.val + 1, by omega⟩ ⟨2 * q.val, by omega⟩))
    (x (ix4 n d ⟨2 * p.val + 1, by omega⟩ ⟨2 * q.val + 1, by omega⟩))

/-- The pooled array with the channels last, as the region leaves it. -/
def pooledLast (x : S64x128x112x112.Idx → EReal) : S64x56x56x128.Idx → EReal := fun j => pooledAt x (j 0) (j 3) (j 1) (j 2)

/-- The input window's block at grid point `t` is the `t`-th pair of images, whole. -/
theorem input_index : ∀ t : Fin cfg0.N, win0_0.index t = ![(grid0.coords t 0).val, 0, 0, 0] :=
  (by decide +kernel : ∀ t : Fin grid0.N, _)

/-- The output window's block at grid point `t` is the `t`-th pair of images, whole. -/
theorem output_index : ∀ t : Fin cfg0.N, win0_1.index t = ![(grid0.coords t 0).val, 0, 0, 0] :=
  (by decide +kernel : ∀ t : Fin grid0.N, _)

/-- A grid coordinate counts pairs of images: it is below thirty-two. -/
theorem coord_lt (t : Fin cfg0.N) : (grid0.coords t 0).val < 32 := (grid0.coords t 0).isLt

/-- Where a position of the input's block lies in the channels-last input. -/
theorem input_emb (t : Fin cfg0.N) (g : Fin 2) (r s : Fin 112) (d : Fin 128) :
    ((View.whole main_v0).slice (win0_0.rect t)).emb (ix4 g r s d)
      = (ix4 ⟨2 * (grid0.coords t 0).val + g.val, by have := coord_lt t; omega⟩ r s d : S64x112x112x128.Idx) := by
  blk_ext [input_index t]

/-- Where a position of the output's block lies in the channels-last output. -/
theorem output_emb (t : Fin cfg0.N) (g : Fin 2) (p q : Fin 56) (d : Fin 128) :
    ((View.whole main_v1).slice (win0_1.rect t)).emb (ix4 g p q d)
      = (ix4 ⟨2 * (grid0.coords t 0).val + g.val, by have := coord_lt t; omega⟩ p q d : S64x56x56x128.Idx) := by
  blk_ext [output_index t]

/-- The region's input array is the caller's, with the channels moved last. -/
theorem entry_input (c : Dev nD) (n : Fin 64) (r s : Fin 112) (d : Fin 128) :
    V m c main_v0 (ix4 n r s d) = m ((c : Thread nD τ).loc main_arg0) (ix4 n d r s) := by
  have h : V m c main_v0 = (transpose S64x112x112x128 [0, 2, 3, 1] (m ((c : Thread nD τ).loc main_arg0))
      transposes_S64x128x112x112_S64x112x112x128_0_2_3_1 : S64x112x112x128.Idx → EReal) := by
    unfold_abbrev_sides
    rw [show [hostOps0 (F := Ideal)].flatten = hostOps0 from rfl]
    after_results
  rw [h]
  pointwise

/-- The input's block at a grid point, read at a position of the block: the caller's array at the pair's image. -/
theorem input_block (c : Dev nD) (t : Fin cfg0.N) (g : Fin 2) (r s : Fin 112) (d : Fin 128) :
    iblk m c 0 t (ix4 g r s d)
      = m ((c : Thread nD τ).loc main_arg0)
          (ix4 ⟨2 * (grid0.coords t 0).val + g.val, by have := coord_lt t; omega⟩ d r s) :=
  (congrArg (V m c main_v0) (input_emb t g r s d)).trans (entry_input m c _ r s d)

/-- What the body stores of its block, against the pooled array at the block's place. -/
theorem block_result (c : Dev nD) (t : Fin cfg0.N) (y : S2x56x56x128.Idx) :
    k0_pay1 (k0_pay2 (iblk m c 0 t)) k0_pay3 0#32 y
      = pooledLast (m ((c : Thread nD τ).loc main_arg0)) (((View.whole main_v1).slice (win0_1.rect t)).emb y) := by
  obtain ⟨g, p, q, d, rfl⟩ : ∃ (g : Fin 2) (p q : Fin 56) (d : Fin 128), y = ix4 g p q d :=
    ⟨y 0, y 1, y 2, y 3, eq_ix4 y⟩
  refine (block_apply _ g p q d).trans ?_
  rw [input_block, input_block, input_block, input_block]
  exact (congrArg (pooledLast (m ((c : Thread nD τ).loc main_arg0))) (output_emb t g p q d)).symm

/-- The region's output array after the run. -/
theorem region_result (c : Dev nD) :
    (dats m 0 c).arrAt 1 cfg0.N = pooledLast (m ((c : Thread nD τ).loc main_arg0)) := by
  refine (dats m 0 c).arrAt_eq_of_covers 1 _ (by decide +kernel) fun t hf y => ?_
  blk_simp
  rw [after0_1]
  frame_out
  exact block_result m c t y

/-- The result buffer after the host's transpose: channels back in second place. -/
theorem tail_result (c : Dev nD) :
    Pipeline.afterTail₀ cfgs (dats m) 0 (V0 m) [hostOps1] c main_v2
      = fun i : S64x128x56x56.Idx => pooledAt (m ((c : Thread nD τ).loc main_arg0)) (i 0) (i 1) (i 2) (i 3) := by
  have h : Pipeline.afterTail₀ cfgs (dats m) 0 (V0 m) [hostOps1] c main_v2
      = (transpose S64x128x56x56 [0, 3, 1, 2] ((dats m 0 c).arrAt 1 cfg0.N)
          transposes_S64x56x56x128_S64x128x56x56_0_3_1_2 : S64x128x56x56.Idx → EReal) := by
    unfold Pipeline.afterTail₀
    rw [show [hostOps1 (F := Ideal)].flatten = hostOps1 from rfl]
    after_results
    exact congrArg (fun x : S64x56x56x128.Idx → EReal => transpose S64x128x56x56 [0, 3, 1, 2] x
      transposes_S64x56x56x128_S64x128x56x56_0_3_1_2)
      (Pipeline.withArrays_arr cfg0.spec (by decide) c (V0 m c) (fun w => (dats m 0 c).arrAt w cfg0.N) 1)
  rw [h, region_result]
  funext i
  pointwise
  rfl

/-- Every run of the idealized kernel ends with the pooled array in the result buffer and the argument unchanged. -/
theorem run (g : Dev nD → PrngReg) :
    θ_run defs (onTc main) ⟨m, fun _ => 0, g⟩ (fun r => ∀ c : Dev nD,
      (r.2.mem ((c : Thread nD τ).loc main_v2) : S64x128x56x56.Idx → EReal)
          = (fun i => pooledAt (m ((c : Thread nD τ).loc main_arg0)) (i 0) (i 1) (i 2) (i 3))
        ∧ r.2.mem ((c : Thread nD τ).loc main_arg0) = m ((c : Thread nD τ).loc main_arg0)) :=
  (θ_run defs _ _).mono (fun r h c =>
    ⟨((h c).2 main_v2 (Pipeline.mem_restRefs_of main_v2 (by decide) (by decide))).trans (tail_result m c),
     ((h c).2 main_arg0 (Pipeline.mem_restRefs_of main_arg0 (by decide) (by decide))).trans (W_main_arg0 m (dats m) c)⟩)
    (run_main m g)

end Cert.KernelIdeal.Pool

end
-- ==== Proof.Equation.lean ====
/- The algebraic claim: the reference's result is the kernel's.

   The reference slices the four corners of every window, adds them in reading order and divides by four; the kernel
   multiplies the same sum by a quarter.  On the extended reals dividing by the real four IS multiplying by the real
   one quarter, whatever the sum is. -/
module

public import proofs.«01_k».proof.Proof.Array
public import proofs.«01_k».proof.Defs
public import proofs.«01_k».proof.Proof.Gen.ReferenceIdeal
public import Idealize.ShloMosaic.Lib.Quiescent

@[expose] public section

noncomputable section

namespace Cert.KernelIdeal.Pool

open Idealize.ShloMosaic Idealize.ShloMosaic.TcCoe Idealize.SL.Sem Cert.KernelIdeal Cert.KernelIdeal.Gen

/-- The f32 pattern of the reference's divisor is the real four. -/
theorem ofBits_four : Ideal.ofBits FTy.f32 0x40800000#32 = ((4 : ℝ) : EReal) := by
  simp [Ideal.ofBits, Ideal.ieee, -EReal.coe_mul]; norm_num

/-- The f32 pattern of the kernel's factor is the real one quarter. -/
theorem ofBits_quarter : Ideal.ofBits FTy.f32 0x3E800000#32 = ((1 / 4 : ℝ) : EReal) := by
  simp [Ideal.ofBits, Ideal.ieee, -EReal.coe_mul]; norm_num

/-- Dividing the window's sum by four is the kernel's quarter of it. -/
theorem div_four (a b c d : EReal) :
    Ideal.div (a + b + c + d) (Ideal.ofBits FTy.f32 0x40800000#32) = quarterSum a b c d := by
  rw [quarterSum, ofBits_four, Ideal.div_coe (by norm_num), ofBits_quarter]

/-- The reference leaves its argument as it was, and no semaphore up. -/
theorem frame_reference : Cert.quiescent_ReferenceIdeal := by
  intro m g _
  hlo_run
  · exact fun _ => trivial
  · exact sem_eq_zero_of_no_sems (sig := Cert.ReferenceIdeal.sig) (by decide) _

/-- The idealized kernel and the idealized reference compute the same array from the same argument. -/
theorem algebraic : Cert.algebraic_KernelIdeal_ReferenceIdeal := by
  pair_intro
  · run_from Cert.KernelIdeal.Pool.run m g
  · hlo_run
    funext i
    pointwise
    rw [div_four]
    simp only [pooledAt, Nat.add_comm 1]

end Cert.KernelIdeal.Pool

end
-- ==== Proof.lean ====
/- The certificate: the three programs run and leave their argument as it was with every semaphore at zero, the
   idealized kernel is the kernel's own text, and the idealized kernel and the reference compute the same array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate, given the side conditions that the generated modules prove. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  Cert.KernelIdeal.Pool.frame_reference, trivial, Cert.KernelIdeal.Pool.algebraic⟩

end Cert.Proof

end
